-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S256x1024 : Shape := ⟨2, ![256, 1024]⟩
abbrev S_ : Shape := ⟨0, ![]⟩
abbrev S1024 : Shape := ⟨1, ![1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_2 : BitVec 32 := 0#32
  let v8 : BitVec 1 := Scalar.cmpi .ne v7 c0_i32_2
  v8

def k0_dev1 (d0 : Dev nD) : Nat :=
  let c0_i32_9 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_6 v2
  let c2_i32_8 : BitVec 32 := 2#32
  let v17 : BitVec 32 := Scalar.muli v16 c2_i32_8
  let v18 : BitVec 32 := Scalar.addi c0_i32_9 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v19 : BitVec 32 := Scalar.muli v5 c1_i32_10
  let v20 : BitVec 32 := Scalar.addi v18 v19
  v20.toNat
def k0_cond3 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_5 : BitVec 32 := 0#32
  let v14 : BitVec 1 := Scalar.cmpi .ne v13 c0_i32_5
  v14

def k0_dev2 (d0 : Dev nD) : Nat :=
  let c0_i32_9 : BitVec 32 := 0#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_7 v2
  let c2_i32_8 : BitVec 32 := 2#32
  let v17 : BitVec 32 := Scalar.muli v16 c2_i32_8
  let v18 : BitVec 32 := Scalar.addi c0_i32_9 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v19 : BitVec 32 := Scalar.muli v5 c1_i32_10
  let v20 : BitVec 32 := Scalar.addi v18 v19
  v20.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x2048 : Shape := ⟨2, ![4096, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S2048, .f32⟩
  | .hbm, ⟨3, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.SameText.lean ====
/-
The kernel and the kernel over the extended reals are one program text, printed twice: their tables of bodies are equal,
so a run of the one is a run of the other.
-/
module

public import proofs.«01_k».proof.Proof.Gen.Kernel
public import proofs.«01_k».proof.Proof.Gen.KernelIdeal

@[expose] public section

noncomputable section

namespace Cert.ColumnSum

open Idealize.ShloMosaic

variable {F : FTy → Type} [FloatOps F]

/-- The two programs' kernel bodies are the same. -/
theorem bodies_same : @Cert.Kernel.defs₀ F _ _ = @Cert.KernelIdeal.defs₀ F _ _ := by
  funext p label args
  match p, label, args with
  | .tc, 0, (_, _) => rfl
  | .scScalar _, _, _ => rfl
  | .scVector _ _, _, _ => rfl

/-- So are their whole tables, the pipeline's bodies put in. -/
theorem tables_same : @Cert.Kernel.defs F _ _ = @Cert.KernelIdeal.defs F _ _ :=
  congrArg (Pipeline.defs (Cert.Kernel.pcfgs (F := F))) bodies_same

end Cert.ColumnSum

end
-- ==== Proof.Protocol.lean ====
/-
The pairing of the four devices and the protocol of one exchange.

Device `c` stands at row `c / 2`, column `c % 2` of the 2 x 2 mesh and exchanges its column sums with the device
of the same column and the other row, `peer c`. Three semaphores of each device take part:

* its BARRIER semaphore, signalled once by the peer at the peer's first grid point. The signal hands over the
  peer's landing buffer: the peer stays off it from then on, so `c` may copy into it;
* its SEND semaphore, credited by its own copy once the source has been read. It gives back the buffer of partial
  sums, unchanged;
* its RECEIVE semaphore, credited by the peer's copy once it has landed. It gives the landing buffer back, holding
  the peer's finished column sums.

Each is paid exactly once, so every cell has one round with one duty.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.ColumnSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the rounds algebra: the pipeline's staging cells, and the exchange's three cells a device. -/
abbrev Res : Type := UR sig nD τ × UR sig nD τ

local notation "𝕄" => MT nD τ sig Unit (Elt F) ℕ Res ℕ

abbrev stagingEmb : Emb (UR sig nD τ) (MT nD τ sig Unit (Elt F) ℕ Res ℕ) := embL
abbrev talkEmb : Emb (UR sig nD τ) (MT nD τ sig Unit (Elt F) ℕ Res ℕ) := embR

variable (m : (ℓ : Loc nD τ sig) → Buf (Elt F) ℓ)

/-! ## The partner device -/

/-- The device in the same column of the mesh and the other row. -/
def peer (c : Dev nD) : Dev nD := ⟨(c.val + 2) % 4, Nat.mod_lt _ (by decide)⟩

/-- Partners are each other's partner. -/
theorem peer_peer (c : Dev nD) : peer (peer c) = c := by
  have small : c.val < 4 := c.isLt
  exact Fin.ext (show ((c.val + 2) % 4 + 2) % 4 = c.val by omega)

/-- The device number the kernel computes for its signal is the partner's. -/
theorem signal_dst (c : Dev nD) (h : k0_dev1 c < nD) : (⟨k0_dev1 c, h⟩ : Dev nD) = peer c := by
  refine Fin.ext ((k0_dev1_eq c).trans ?_)
  clear h; revert c; decide

/-- The device number the kernel computes for its copy is the partner's. -/
theorem copy_dst (c : Dev nD) (h : k0_dev2 c < nD) : (⟨k0_dev2 c, h⟩ : Dev nD) = peer c := by
  refine Fin.ext ((k0_dev2_eq c).trans ?_)
  clear h; revert c; decide

/-- Taking the partner is a permutation of the devices. -/
def partner : Dev nD ≃ Dev nD := ⟨peer, peer, peer_peer, peer_peer⟩

/-! ## The cells -/

/-- The three semaphores of the exchange. -/
inductive Role where
  | barrier | send | recv
  deriving DecidableEq

instance : Fintype Role := ⟨{.barrier, .send, .recv}, fun k => by cases k <;> decide⟩

/-- Which semaphore of a TensorCore plays the role. -/
abbrev Role.sem : Role → SemLoc sig
  | .barrier => .reg (SemArray.scalar (sig.barrier 0 rfl) : Sems sig S_).sem
  | .send => .dma (cc0_scratch2 : DmaSems sig S_).sem
  | .recv => .dma (cc0_scratch3 : DmaSems sig S_).sem

/-- Device `c`'s semaphore of a role. -/
abbrev cell (c : Dev nD) (k : Role) : GSem nD τ sig := ((c : Thread nD τ), k.sem)

/-- The roles name different semaphores. -/
theorem sem_injective : Function.Injective Role.sem := by
  intro a b h
  cases a <;> cases b <;> first | rfl | exact absurd h (by decide)

/-- Two of the exchange's cells are the same only for the same device and role. -/
theorem cell_inj {c d : Dev nD} {k l : Role} (h : cell c k = cell d l) : c = d ∧ k = l :=
  ⟨Fin.ext (congrArg (fun g : GSem nD τ sig => g.1.1.val) h), sem_injective (congrArg Prod.snd h)⟩

/-- The credit of one copy of a row of 1024 sums. -/
abbrev rowCredit : ℕ := (Memref.whole cc0_scratch1 : Memref sig .tc .vmem S1x1024 .f32).view.dmaCredit

/-- It is not zero. -/
theorem rowCredit_pos : 0 < rowCredit := View.dmaCredit_pos _ (by decide)

/-! ## What the buffers hold -/

/-- The grid point numbered `n`. -/
def pt (n : ℕ) : Fin cfg0.N := ⟨n % 8, Nat.mod_lt _ (by decide)⟩

/-- The 256 rows of device `c`'s array that point `t` stages. -/
def rows (c : Dev nD) (t : Fin cfg0.N) : Vec F S256x1024 .f32 := iblk m c 0 t

/-- The buffer of partial sums on device `c` after point `n`. -/
def partialSum (c : Dev nD) : ℕ → Vec F S1x1024 .f32
  | 0 => k0_pay1 (rows m c (pt 0))
  | n + 1 => k0_pay2 (partialSum c n) (rows m c (pt (n + 1)))

/-- The column sums of device `c`'s own array: the partial sums after the last point. -/
def ownSum (c : Dev nD) : Vec F S1x1024 .f32 := partialSum m c 7

/-- What device `c` stores in its result. -/
def result (c : Dev nD) : Vec F S1x1024 .f32 := k0_pay3 (ownSum m c) (ownSum m (peer c))

/-- Device `c`'s buffer of partial sums holds `X`. -/
def sumBuf (c : Dev nD) (X : Vec F S1x1024 .f32) : sProp 𝕄 := ((c : Thread nD τ).loc cc0_scratch0) ↦{fullShare} X

/-- Device `c`'s landing buffer holds `X`. -/
def landBuf (c : Dev nD) (X : Vec F S1x1024 .f32) : sProp 𝕄 := ((c : Thread nD τ).loc cc0_scratch1) ↦{fullShare} X

instance sumBuf_storable (c : Dev nD) (X : Vec F S1x1024 .f32) : BI.Storable (upEmb : UEmb _ 𝕄) (sumBuf c X) := by
  unfold sumBuf; infer_instance

instance landBuf_storable (c : Dev nD) (X : Vec F S1x1024 .f32) : BI.Storable (upEmb : UEmb _ 𝕄) (landBuf c X) := by
  unfold landBuf; infer_instance

/-! ## The schedule -/

/-- What whoever waits on device `c`'s semaphore receives. -/
def handover (c : Dev nD) : SemLoc sig → sProp 𝕄
  | .reg _ => iprop(∃ X, landBuf (peer c) X)
  | .dma q => if q = (cc0_scratch2 : DmaSems sig S_).sem then sumBuf c (ownSum m c) else landBuf c (ownSum m (peer c))

/-- The units one payment puts on a semaphore: one for a signal, the row's credit for a copy. -/
def units : SemLoc sig → ℕ
  | .reg _ => 1
  | .dma _ => rowCredit

/-- One round on every cell, with one duty. -/
def talk : Rounds.Schedule (GSem nD τ sig) Unit 𝕄 where
  duties _ r := if r = 0 then {()} else ∅
  unitless _ := False
  amount g _ _ := units g.2
  payload g _ _ := handover m g.1.1 g.2
  amount_pos g _ _ _ := by
    obtain ⟨_, s⟩ := g
    cases s
    · exact Nat.one_pos
    · exact rowCredit_pos

instance talk_storable (g : GSem nD τ sig) (r : ℕ) (d : Unit) : BI.Storable (upEmb : UEmb _ 𝕄) ((talk m).payload g r d) := by
  show BI.Storable upEmb (handover m g.1.1 g.2)
  unfold handover
  split
  · infer_instance
  · split <;> infer_instance

/-- Round 0 has the one duty. -/
theorem duty_mem (g : GSem nD τ sig) : () ∈ (talk m).duties g 0 := Finset.mem_singleton_self _

/-- No later round has any. -/
theorem duties_later (g : GSem nD τ sig) (r : ℕ) (hr : 1 ≤ r) : (talk m).duties g r = ∅ := if_neg (by omega)

/-- Round 0 expects that duty's units. -/
theorem expect_zero (g : GSem nD τ sig) : (talk m).expect g 0 = units g.2 := by
  unfold Schedule.expect Schedule.amountOf
  exact Finset.sum_singleton _ _

/-- The rest of round 0, nothing taken, is what the cell hands over. -/
theorem rest_zero (c : Dev nD) (k : Role) :
    bigSep ((talk m).duties (cell c k) 0 \ ∅) (fun d => (talk m).payload (cell c k) 0 d) = handover m c k.sem := by
  rw [Finset.sdiff_empty]; exact bigSep_singleton

/-- The barrier's cell hands over the partner's landing buffer, whatever it holds; -/
theorem handover_barrier (c : Dev nD) : handover m c Role.barrier.sem = iprop(∃ X, landBuf (peer c) X) := rfl
/-- the send cell gives back the device's own finished sums; -/
theorem handover_send (c : Dev nD) : handover m c Role.send.sem = sumBuf c (ownSum m c) := by
  unfold handover; exact if_pos rfl
/-- the receive cell gives back the landing buffer, at the partner's finished sums. -/
theorem handover_recv (c : Dev nD) : handover m c Role.recv.sem = landBuf c (ownSum m (peer c)) := by
  unfold handover; exact if_neg (by decide)

/-! ## Dues and levels

A device owes its partner the barrier unit until its first point and the copy's credit until its last. It waits on
its staging and send semaphores (level 0) at any time, on its barrier semaphore (level 1) owing only the copy
(level 2), and on its receive semaphore owing nothing. -/

/-- The copy's credit, due to the partner's receive semaphore. -/
def copyDue (c : Dev nD) : CellTallies nD τ sig Unit := tallyAt (cell (peer c) .recv) () rowCredit
/-- Everything due at launch. -/
def launchDue (c : Dev nD) : CellTallies nD τ sig Unit := copyDue c + tallyAt (cell (peer c) .barrier) () 1

/-- Every TensorCore semaphore has the one index. -/
def idx (g : GSem nD τ sig) : Finset Unit := if g.1.2 = .tc then {()} else ∅

/-- A semaphore's level. -/
def semLevel : SemLoc sig → ℕ
  | .reg _ => 1
  | .dma q => if q = (cc0_scratch3 : DmaSems sig S_).sem then 2 else 0
/-- A cell's level is its semaphore's. -/
def level (g : GSem nD τ sig) (_ : Unit) : ℕ := semLevel g.2

/-- Nothing is indexed off the TensorCores, -/
theorem idx_of_ne (g : GSem nD τ sig) (h : g.1.2 ≠ .tc) : idx g = ∅ := if_neg h
/-- and on one, every index is there. -/
theorem mem_idx (c : Dev nD) (s : SemLoc sig) (u : Unit) : u ∈ idx ((c : Thread nD τ), s) := Finset.mem_singleton_self _

/-- Owing the copy is owing the partner's receive semaphore. -/
theorem copyDue_pos {c : Dev nD} {g : GSem nD τ sig} {u : Unit} (h : 0 < copyDue c g u) : g = cell (peer c) .recv := by
  unfold copyDue at h
  rw [tallyAt_apply] at h
  by_contra hn
  rw [if_neg fun e => hn e.1] at h
  exact Nat.lt_irrefl 0 h

/-- At launch the partner's barrier semaphore is owed too. -/
theorem launchDue_pos {c : Dev nD} {g : GSem nD τ sig} {u : Unit} (h : 0 < launchDue c g u) :
    g = cell (peer c) .recv ∨ g = cell (peer c) .barrier := by
  unfold launchDue at h
  rw [Pi.add_apply, Finsupp.add_apply, tallyAt_apply] at h
  by_cases hb : g = cell (peer c) .barrier
  · exact .inr hb
  · rw [if_neg fun e => hb e.1, Nat.add_zero] at h
    exact .inl (copyDue_pos h)

/-- A device may wait on a semaphore below everything it owes. -/
theorem mayWait_below (c : Dev nD) (s : SemLoc sig) (O : CellTallies nD τ sig Unit)
    (hO : ∀ g u, 0 < O g u → ∃ k, g = cell (peer c) k ∧ semLevel s < semLevel k.sem) :
    (levAts idx level : sProp 𝕄) ⊢ MayWait (c : Thread nD τ) s () O :=
  MayOwe.of_cut (L := idx) (lev := level) (semLevel s)
    (fun p hp => by rw [Finset.mem_singleton.mp hp]; exact mem_idx c s ())
    (fun g u hg => by obtain ⟨k, rfl, -⟩ := hO g u hg; exact mem_idx _ _ _)
    (fun p hp => by rw [Finset.mem_singleton.mp hp]; exact le_rfl)
    (fun g u hg => by obtain ⟨k, rfl, h⟩ := hO g u hg; exact h)

/-- The barrier wait, owing the copy only. -/
theorem mayWait_barrier (c : Dev nD) : (levAts idx level : sProp 𝕄) ⊢ MayWait (c : Thread nD τ) Role.barrier.sem () (copyDue c) :=
  mayWait_below c _ _ fun g u h => ⟨.recv, copyDue_pos h, by decide⟩

/-- What a device owes before grid point `n` of the eight. -/
def due (c : Dev nD) (n : ℕ) : CellTallies nD τ sig Unit := if n = 0 then launchDue c else if n < 8 then copyDue c else 0

/-- A wait on a semaphore of level 0 goes under all of these. -/
theorem mayWait_staging (c : Dev nD) (s : SemLoc sig) (hs : semLevel s = 0) (n : ℕ) :
    (levAts idx level : sProp 𝕄) ⊢ MayWait (c : Thread nD τ) s () (due c n) := by
  refine mayWait_below c s _ fun g u h => ?_
  rw [hs]
  unfold due at h
  split at h
  · rcases launchDue_pos h with e | e
    · exact ⟨.recv, e, by decide⟩
    · exact ⟨.barrier, e, by decide⟩
  · split at h
    · exact ⟨.recv, copyDue_pos h, by decide⟩
    · exact absurd h (Nat.lt_irrefl 0)

end Cert.ColumnSum

end
-- ==== Proof.Body.lean ====
/-
The kernel body at one grid point, on any device, from what the point finds to what it leaves.

Three kinds of point: the first sets the partial sums and signals the partner, the middle ones add their rows to the
partial sums, the last one adds its rows too, then waits for the partner's signal, copies the finished sums across,
waits for both ends of the exchange and stores the total.
-/
module

public import proofs.«01_k».proof.Proof.Protocol
public import Idealize.ShloMosaic.Lib.Pipeline.Value

@[expose] public section

noncomputable section

namespace Cert.ColumnSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Res ℕ

variable (m : (ℓ : Loc nD τ sig) → Buf (Elt F) ℓ)

/-- The kernel calls nothing that recurses. -/
abbrev plain : Variants := Variants.none

/-! ## Whole-buffer loads and stores -/

/-- Loading a whole buffer reads what it holds. -/
theorem load_all (c : Dev nD) {s : Shape} {e : EltTy} {a : Memref sig .tc .vmem s e} {off : Fin s.rank → ℕ} (hz : off = fun _ => 0)
    {inb : ∀ d, off d + s.size d ≤ s.size d} {hl : a.view.LoadsAt (Rect.unit off s.size inb).toLoadRect}
    {α : Type} {Q : α → sProp 𝕄} {k : (s.Idx → Elt F e) → Prog (TpuEff nD τ sig (Elt F) Λ₀ .tc) α} (X : s.Idx → Elt F e) :
    (owns (c : Thread nD τ) a fullShare X : sProp 𝕄)
      ⊢ iprop((owns (c : Thread nD τ) a fullShare X -∗ wp frame (wpE (defs₀ (F := F)) plain (c : Thread nD τ) none) Set.univ (k X) Q)
          -∗ wp frame (wpE (defs₀ (F := F)) plain (c : Thread nD τ) none) Set.univ
              (.op (.load a (Rect.unit off s.size inb).toLoadRect hl) k) Q) := by
  unfold owns
  iintro ⟨%f, %hf, H⟩ Hk
  iapply (wp_load plain (c : Thread nD τ) none Set.univ (m := a) (View.setOn_subset_set _ _)) $$ H
  iintro H
  rw [show a.view.readAt (Elt F) (Rect.unit off s.size inb).toLoadRect f = X from
    (View.readAt_eq_ld a.view f _).trans (by rw [hf]; exact View.ld_unit_zero hz inb X)]
  iapply Hk
  iexists f
  isplitr; · ipureintro; exact hf
  iexact H

/-- Storing a whole buffer leaves it holding what was stored. -/
theorem store_all (c : Dev nD) {s : Shape} {e : EltTy} {a : Memref sig .tc .vmem s e} {off : Fin s.rank → ℕ} (hz : off = fun _ => 0)
    {inb : ∀ d, off d + s.size d ≤ s.size d} {w : s.Idx → Elt F e} {hx : (a.access (Rect.unit off s.size inb)).Stores Finset.univ}
    {hm : Finset.univ = Finset.univ ∨ ∀ d, (Rect.unit off s.size inb).stride d = 1}
    {α : Type} {Q : α → sProp 𝕄} {k : PUnit → Prog (TpuEff nD τ sig (Elt F) Λ₀ .tc) α} (X : s.Idx → Elt F e) :
    (owns (c : Thread nD τ) a fullShare X : sProp 𝕄)
      ⊢ iprop((owns (c : Thread nD τ) a fullShare w -∗ wp frame (wpE (defs₀ (F := F)) plain (c : Thread nD τ) none) Set.univ (k ⟨⟩) Q)
          -∗ wp frame (wpE (defs₀ (F := F)) plain (c : Thread nD τ) none) Set.univ
              (.op (.store a (Rect.unit off s.size inb) w Finset.univ hx hm) k) Q) := by
  unfold owns
  iintro ⟨%f, %hf, H⟩ Hk
  iapply (wp_store plain (c : Thread nD τ) none Set.univ (m := a) (r := Rect.unit off s.size inb) (Mk := Finset.univ)
    (S := a.view.set) (Idealize.ShloMosaic.View.set_slice_subset a.view _)) $$ H
  iintro H
  iapply Hk
  iexists _
  isplitr
  pick_goal 2; · iexact H
  ipureintro
  have h := View.read_writes_eq_canon a.view f [(⟨Rect.unit off s.size inb, w⟩ : View.Piece (Elt F) s e)]
    fun y => ⟨_, List.mem_singleton_self _, View.mem_set_unit_zero hz inb y⟩
  rw [View.canon_unit_zero hz] at h
  exact h

/-- The printed accesses' offsets are zero. -/
theorem origin_eq : (![0, 0] : Fin 2 → ℕ) = fun _ => 0 := by decide

/-- Holding the partial sums is owning their buffer through its whole memref. -/
theorem sumBuf_owns (c : Dev nD) (X : Vec F S1x1024 .f32) :
    (owns (c : Thread nD τ) (Memref.whole cc0_scratch0) fullShare X : sProp 𝕄) = sumBuf c X := owns_whole _ _ _ _

/-- The same of the landing buffer. -/
theorem landBuf_owns (c : Dev nD) (X : Vec F S1x1024 .f32) :
    (owns (c : Thread nD τ) (Memref.whole cc0_scratch1) fullShare X : sProp 𝕄) = landBuf c X := owns_whole _ _ _ _

/-! ## Which branch a point takes -/

/-- The printed test "after the first point". -/
def later (i : grid0.Coords) : BitVec 1 :=
  Scalar.cmpi .ne (Scalar.extui (Scalar.cmpi .sgt (BitVec.ofNat 32 (i 0).val) 0#32)) 0#32

/-- The first branch is the first point's, -/
theorem first_iff : ∀ t : Fin grid0.N, k0_cond1 (grid0.coords t) = 1#1 ↔ t.val = 0 := by decide +kernel
/-- the second every later point's, -/
theorem later_iff : ∀ t : Fin grid0.N, later (grid0.coords t) = 1#1 ↔ t.val ≠ 0 := by decide +kernel
/-- the third the last point's. -/
theorem last_iff : ∀ t : Fin grid0.N, k0_cond3 (grid0.coords t) = 1#1 ↔ t.val = 7 := by decide +kernel

/-! ## What a device knows and holds -/

/-- Every cell's invariant, at the names `K` it was given, and that round 0 of every cell is reached. -/
def known (K : Dev nD × Role → ℕ) : sProp 𝕄 :=
  iprop((bigSep Finset.univ fun ck : Dev nD × Role => cellInv talkEmb (talk m) (K ck) (cell ck.1 ck.2))
    ∗ bigSep Finset.univ fun ck : Dev nD × Role => reached talkEmb (cell ck.1 ck.2) 0)

instance known_persistent (K : Dev nD × Role → ℕ) : BI.Persistent (known m K) := by unfold known; infer_instance

/-- One cell's invariant out of them. -/
theorem known_inv (K : Dev nD × Role → ℕ) (c : Dev nD) (k : Role) : known m K ⊢ cellInv talkEmb (talk m) (K (c, k)) (cell c k) := by
  unfold known
  have h : (bigSep Finset.univ fun ck : Dev nD × Role => cellInv talkEmb (talk m) (K ck) (cell ck.1 ck.2)) ⊢
      cellInv talkEmb (talk m) (K (c, k)) (cell c k) := bigSep_elim (Finset.mem_univ (c, k))
  iintro ⟨H, -⟩
  iapply h
  iexact H

/-- One cell's mark out of them. -/
theorem known_reached (K : Dev nD × Role → ℕ) (c : Dev nD) (k : Role) : known m K ⊢ reached talkEmb (cell c k) 0 := by
  unfold known
  have h : (bigSep Finset.univ fun ck : Dev nD × Role => (reached talkEmb (cell ck.1 ck.2) 0 : sProp 𝕄)) ⊢
      reached talkEmb (cell c k) 0 := bigSep_elim (Finset.mem_univ (c, k))
  iintro ⟨-, H⟩
  iapply h
  iexact H

/-- What a device keeps for the last point: its place on its three cells, the two duties its copy pays, the credit its
    waits spend, and the levels. -/
def pending (c : Dev nD) : sProp 𝕄 :=
  iprop(atPos talkEmb (cell c .barrier) 0 ∅ 0 ∗ atPos talkEmb (cell c .send) 0 ∅ 0 ∗ atPos talkEmb (cell c .recv) 0 ∅ 0
    ∗ dutyTok talkEmb (cell (peer c) .recv) 0 () ∗ dutyTok talkEmb (cell c .send) 0 ()
    ∗ cred (tallyAt (cell c .barrier) () 1) ∗ cred (tallyAt (cell c .recv) () rowCredit) ∗ levAts idx level)

/-- What a device holds once the exchange is over: both buffers, and its three counters at zero. -/
def settled (c : Dev nD) : sProp 𝕄 :=
  iprop((∃ X, sumBuf c X) ∗ (∃ X, landBuf c X) ∗ semVal (cell c .barrier) 0 ∗ semVal (cell c .send) 0 ∗ semVal (cell c .recv) 0)

/-! ## The copy -/

/-- The copy of the finished sums into the partner's landing buffer, paying the copier's send cell and the partner's
    receive cell. -/
theorem copy_across (K : Dev nD × Role → ℕ) (c n : Dev nD) (hn : n = peer c)
    {hsc : (Memref.whole cc0_scratch1 : Memref sig (Dev.tc n : Thread nD τ).2.kind .vmem S1x1024 .f32).view.ref.isScScratch = false}
    {hsrc : (Memref.whole cc0_scratch0 : Memref sig .tc .vmem S1x1024 .f32).view.WordExact}
    {hdst : (Memref.whole cc0_scratch1 : Memref sig .tc .vmem S1x1024 .f32).view.WordExact}
    {hsem : DmaTarget.Typed .vmem Role.recv.sem
      (.remote (Dev.tc n : Thread nD τ) (Memref.whole cc0_scratch1 : Memref sig .tc .vmem S1x1024 .f32) Role.send.sem hsc)}
    {α : Type} {Q : α → sProp 𝕄} {k : PUnit → Prog (TpuEff nD τ sig (Elt F) Λ₀ .tc) α}
    (Y : Vec F S1x1024 .f32) (W : Waits sig Unit) :
    iprop(known m K ∗ sumBuf c (ownSum m c) ∗ landBuf (peer c) Y ∗ owes (c : Thread nD τ) (copyDue c) W
        ∗ dutyTok talkEmb (cell c .send) 0 () ∗ dutyTok talkEmb (cell (peer c) .recv) 0 ())
      ⊢ iprop(((cred (tallyAt (cell c .send) () rowCredit) ∗ owes (c : Thread nD τ) 0 W)
            -∗ wp frame (wpE (defs₀ (F := F)) plain (c : Thread nD τ) none) Set.univ (k ⟨⟩) Q)
          -∗ wp frame (wpE (defs₀ (F := F)) plain (c : Thread nD τ) none) Set.univ
              (.op (.enqueueDma (Memref.whole cc0_scratch0)
                (.remote (Dev.tc n : Thread nD τ) (Memref.whole cc0_scratch1) Role.send.sem hsc) Role.recv.sem hsrc hdst hsem) k) Q) := by
  subst hn
  have hpay : ((Memref.whole cc0_scratch1 : Memref sig .tc .vmem S1x1024 .f32).view.loc (peer c : Thread nD τ)
        ↦[(Memref.whole cc0_scratch1 : Memref sig .tc .vmem S1x1024 .f32).view.set]{fullShare}
          ((Memref.whole cc0_scratch1 : Memref sig .tc .vmem S1x1024 .f32).view.write (Elt F) Y
            ((Memref.whole cc0_scratch0 : Memref sig .tc .vmem S1x1024 .f32).view.read (Elt F) (ownSum m c)) Finset.univ) : sProp 𝕄)
      ⊢ (talk m).payload (cell (peer c) .recv) 0 () := by
    refine Entails.of_eq (Eq.trans ?_ (handover_recv m (peer c)).symm)
    unfold landBuf
    rw [peer_peer]
    show ((peer c : Thread nD τ).loc cc0_scratch1 ↦[(View.whole cc0_scratch1).set]{fullShare}
        (View.whole cc0_scratch1).write (Elt F) Y ((View.whole cc0_scratch0).read (Elt F) (ownSum m c)) Finset.univ : sProp 𝕄) = _
    rw [View.read_whole, View.write_whole_univ, View.set_whole]
  have hback : ((Memref.whole cc0_scratch0 : Memref sig .tc .vmem S1x1024 .f32).view.loc (c : Thread nD τ)
        ↦[(Memref.whole cc0_scratch0 : Memref sig .tc .vmem S1x1024 .f32).view.set]{fullShare} ownSum m c : sProp 𝕄)
      = sumBuf c (ownSum m c) := by
    unfold sumBuf
    show ((c : Thread nD τ).loc cc0_scratch0 ↦[(View.whole cc0_scratch0).set]{fullShare} ownSum m c : sProp 𝕄) = _
    rw [View.set_whole]
  have hland : ((Memref.whole cc0_scratch1 : Memref sig .tc .vmem S1x1024 .f32).view.loc (peer c : Thread nD τ)
        ↦[(Memref.whole cc0_scratch1 : Memref sig .tc .vmem S1x1024 .f32).view.set]{fullShare} Y : sProp 𝕄) = landBuf (peer c) Y := by
    unfold landBuf
    show ((peer c : Thread nD τ).loc cc0_scratch1 ↦[(View.whole cc0_scratch1).set]{fullShare} Y : sProp 𝕄) = _
    rw [View.set_whole]
  have hO : copyDue c = 0 + tallyAt (cell (peer c) .recv) () rowCredit := by rw [zero_add]; rfl
  refine BIBase.Entails.trans ?_ (Rounds.wp_send_pointsTo (defs := defs₀ (F := F)) (Q := Q) (k := k) (src := Memref.whole cc0_scratch0)
    (dst := Memref.whole cc0_scratch1) (sS := Role.send.sem) (sem := Role.recv.sem) (hsc := hsc) (hsrc := hsrc) (hdst := hdst)
    (hsem := hsem) (c' := (peer c : Thread nD τ)) plain talkEmb (talk m) (c : Thread nD τ) none (κ₁ := K (c, .send))
    (κ₂ := K (peer c, .recv)) (r₁ := 0) (r₂ := 0) (d₁ := ()) (d₂ := ()) (fs := ownSum m c) (fd := Y) (q := fullShare)
    (duty_mem m _) (duty_mem m _) () () rowCredit rfl rfl rfl 0 hO (W := W)
    (Entails.of_eq (hback.trans (handover_send m c).symm)) hpay (Es := Set.univ) (by routes))
  rw [hback, hland]
  iintro ⟨#HK, Hs, Hl, HO, Hts, Htr⟩
  isplitr; · iapply (known_inv m K c .send); iexact HK
  isplitr; · iapply (known_inv m K (peer c) .recv); iexact HK
  isplitl [Hs]; · iexact Hs
  isplitl [Hl]; · iexact Hl
  isplitl [HO]; · iexact HO
  isplitl [Hts]; · iexact Hts
  isplitr; · iapply (known_reached m K c .send); iexact HK
  isplitl [Htr]; · iexact Htr
  iapply (known_reached m K (peer c) .recv); iexact HK

/-! ## The three kinds of point -/

section Points

variable (c : Dev nD) (t : Fin grid0.N)
  (a1 : Memref sig .tc .vmem S256x1024 .f32) (h1 : a1.IsWhole) (a2 : Memref sig .tc .vmem S1x1024 .f32) (h2 : a2.IsWhole)
  (X : Vec F S256x1024 .f32)

/-- The body at point `t` on device `c`'s staging buffers `a1`, `a2`. -/
abbrev bodyWp (Q : PUnit → sProp 𝕄) : sProp 𝕄 :=
  wp frame (wpE (defs₀ (F := F)) plain (c : Thread nD τ) none) Set.univ
    (cc0_body (F := F) (grid0.coords t) a1 h1 a2 h2 (Memref.whole cc0_scratch0) (Memref.isWhole_whole _)
      (Memref.whole cc0_scratch1) (Memref.isWhole_whole _) cc0_scratch2 cc0_scratch3) Q

/-- A middle point adds the column sums of its rows to the partial sums. -/
theorem body_middle (Q : PUnit → sProp 𝕄) (h0 : t.val ≠ 0) (h7 : t.val ≠ 7) (S : Vec F S1x1024 .f32) :
    iprop((owns (c : Thread nD τ) a1 fullShare X ∗ sumBuf c S)
        ∗ ((owns (c : Thread nD τ) a1 fullShare X ∗ sumBuf c (k0_pay2 (F := F) S X)) -∗ Q ⟨⟩))
      ⊢ bodyWp c t a1 h1 a2 h2 Q := by
  have hf := mt (first_iff t).mp h0
  have hn := (later_iff t).mpr h0
  have hl := mt (last_iff t).mp h7
  unfold later at hn
  unfold bodyWp
  simp only [cc0_body_eq_skeleton]; unfold cc0_body_skel
  simp only [Prog.lift, Prog.bind_op, Prog.bind_ret, Prog.pure_eq_ret, wp_deviceId, dif_neg hf, dif_pos hn, dif_neg hl, ← sumBuf_owns]
  iintro ⟨⟨Hx, Hs⟩, Hk⟩
  iapply (load_all c origin_eq S) $$ Hs; iintro Hs
  iapply (load_all c origin_eq X) $$ Hx; iintro Hx
  iapply (load_all c origin_eq S) $$ Hs; iintro Hs
  iapply (store_all c origin_eq S) $$ Hs; iintro Hs
  rw [wp_ret]; imodintro
  iapply Hk
  isplitl [Hx]; · iexact Hx
  iexact Hs

/-- The first point sets the partial sums to the column sums of its rows, and hands the landing buffer to the partner
    with its signal. -/
theorem body_first (W : Waits sig Unit) (Q : PUnit → sProp 𝕄) (K : Dev nD × Role → ℕ) (h0 : t.val = 0) :
    iprop((owns (c : Thread nD τ) a1 fullShare X ∗ (∃ S, sumBuf c S) ∗ (∃ Y, landBuf c Y) ∗ known m K
          ∗ dutyTok talkEmb (cell (peer c) .barrier) 0 () ∗ owes (c : Thread nD τ) (launchDue c) W)
        ∗ ((owns (c : Thread nD τ) a1 fullShare X ∗ sumBuf c (k0_pay1 (F := F) X) ∗ owes (c : Thread nD τ) (copyDue c) W) -∗ Q ⟨⟩))
      ⊢ bodyWp c t a1 h1 a2 h2 Q := by
  have hf := (first_iff t).mpr h0
  have hn := mt (later_iff t).mp (not_not.mpr h0)
  have hl := mt (last_iff t).mp (by omega)
  unfold later at hn
  unfold bodyWp
  simp only [cc0_body_eq_skeleton]; unfold cc0_body_skel
  simp only [semSignalWord, Prog.lift, Prog.bind_op, Prog.bind_ret, Prog.pure_eq_ret, wp_deviceId, dif_pos hf, dif_neg hn, dif_neg hl,
    ← sumBuf_owns, signal_dst]
  iintro ⟨⟨Hx, ⟨%S, Hs⟩, Hland, #HK, Htok, HO⟩, Hk⟩
  iapply (Rounds.wp_signal plain talkEmb (talk m) (c : Thread nD τ) none (dst := (peer c : Thread nD τ)) (κ := K (peer c, .barrier))
    (d := ()) (duty_mem m _) (by rfl) () (copyDue c) rfl) $$ [HO Htok Hland]
  · isplitr; · iapply (known_inv m K (peer c) .barrier); iexact HK
    isplitl [HO]; · iexact HO
    isplitl [Htok]; · iexact Htok
    isplitl [Hland]
    · iapply (Entails.of_eq (show iprop(∃ Y, landBuf c Y) = (talk m).payload (cell (peer c) .barrier) 0 () from by
        show _ = iprop(∃ Y, landBuf (peer (peer c)) Y)
        rw [peer_peer]))
      iexact Hland
    · iapply (known_reached m K (peer c) .barrier); iexact HK
  iintro HO
  iapply (load_all c origin_eq X) $$ Hx; iintro Hx
  iapply (load_all c origin_eq S) $$ Hs; iintro Hs
  iapply (store_all c origin_eq S) $$ Hs; iintro Hs
  rw [wp_ret]; imodintro
  iapply Hk
  isplitl [Hx]; · iexact Hx
  isplitl [Hs]; · iexact Hs
  iexact HO

/-- The last point adds its rows, then exchanges the finished sums with the partner and stores the total. Both buffers
    come back, and the three counters end at zero. -/
theorem body_last (W : Waits sig Unit) (Q : PUnit → sProp 𝕄) (K : Dev nD × Role → ℕ) (h7 : t.val = 7) (S Z : Vec F S1x1024 .f32)
    (hS : k0_pay2 (F := F) S X = ownSum m c) :
    iprop((owns (c : Thread nD τ) a1 fullShare X ∗ owns (c : Thread nD τ) a2 fullShare Z ∗ sumBuf c S ∗ known m K ∗ pending c
          ∗ owes (c : Thread nD τ) (copyDue c) W)
        ∗ ((∃ W', owns (c : Thread nD τ) a1 fullShare X ∗ owns (c : Thread nD τ) a2 fullShare (result m c) ∗ settled c
            ∗ owes (c : Thread nD τ) 0 W') -∗ Q ⟨⟩))
      ⊢ bodyWp c t a1 h1 a2 h2 Q := by
  have hf := mt (first_iff t).mp (by omega)
  have hn := (later_iff t).mpr (by omega)
  have hl := (last_iff t).mpr h7
  unfold later at hn
  unfold bodyWp
  simp only [cc0_body_eq_skeleton]; unfold cc0_body_skel
  simp only [semWaitWord, Prog.lift, Prog.bind_op, Prog.bind_ret, Prog.pure_eq_ret, wp_deviceId, dif_neg hf, dif_pos hn, dif_pos hl]
  unfold pending
  iintro ⟨⟨Hx, Hz, Hs, #HK, ⟨Hab, Has, Har, Htr, Hts, Hcb, Hcr, #Hlev⟩, HO⟩, Hk⟩
  -- the last rows
  ihave Hs := (Entails.of_eq (sumBuf_owns c S).symm) $$ Hs
  iapply (load_all c origin_eq S) $$ Hs; iintro Hs
  iapply (load_all c origin_eq X) $$ Hx; iintro Hx
  iapply (load_all c origin_eq S) $$ Hs; iintro Hs
  iapply (store_all c origin_eq S) $$ Hs; iintro Hs
  rw [hS]
  ihave Hs := (Entails.of_eq (sumBuf_owns c (ownSum m c))) $$ Hs
  -- the partner's signal, and its landing buffer with it
  iapply (Rounds.wp_wait_rest_token plain talkEmb (talk m) (c : Thread nD τ) none (κ := K (c, .barrier))
    (wpE_semWait_eq plain (c : Thread nD τ) none Set.univ) (Set.mem_univ _) () (O := copyDue c) (W := W) (R := 0) (m := 0) (T := ∅)
    (by rw [expect_zero]; rfl)) $$ [Hcb HO Hab]
  · isplitr; · iapply (known_inv m K c .barrier); iexact HK
    isplitl [Hcb]; · iexact Hcb
    isplitl [HO]; · iexact HO
    isplitr; · iapply (mayWait_barrier c); iexact Hlev
    iexact Hab
  iintro ⟨HO, Hab, -, Hpay⟩
  ihave Hp := (Entails.of_eq ((rest_zero m c .barrier).trans (handover_barrier m c))) $$ Hpay
  icases Hp with ⟨%Y, Hl⟩
  -- the copy
  iapply (copy_across m K c _ (copy_dst c _) Y (insert (Role.barrier.sem, ()) W)) $$ [Hs Hl HO Hts Htr]
  · isplitr; · iexact HK
    isplitl [Hs]; · iexact Hs
    isplitl [Hl]; · iexact Hl
    isplitl [HO]; · iexact HO
    isplitl [Hts]; · iexact Hts
    iexact Htr
  iintro ⟨Hcs, HO⟩
  -- its source is read
  iapply (Rounds.wp_wait_rest_token plain talkEmb (talk m) (c : Thread nD τ) none (κ := K (c, .send))
    (wpE_waitDma2_eq plain (c : Thread nD τ) none Set.univ) (Set.mem_univ _) () (O := 0) (W := insert (Role.barrier.sem, ()) W) (R := 0) (m := 0) (T := ∅)
    (by rw [expect_zero, Nat.zero_add]; rfl)) $$ [Hcs HO Has]
  · isplitr; · iapply (known_inv m K c .send); iexact HK
    isplitl [Hcs]; · iexact Hcs
    isplitl [HO]; · iexact HO
    isplitr; · rw [MayWait_zero]; iempintro
    iexact Has
  iintro ⟨HO, Has, -, Hpay⟩
  ihave Hs := (Entails.of_eq ((rest_zero m c .send).trans ((handover_send m c).trans (sumBuf_owns c _).symm))) $$ Hpay
  -- the partner's sums have landed
  iapply (Rounds.wp_wait_rest_token plain talkEmb (talk m) (c : Thread nD τ) none (κ := K (c, .recv))
    (wpE_waitDma2_eq plain (c : Thread nD τ) none Set.univ) (Set.mem_univ _) () (O := 0)
    (W := insert (Role.send.sem, ()) (insert (Role.barrier.sem, ()) W)) (R := 0) (m := 0) (T := ∅)
    (by rw [expect_zero, Nat.zero_add]; rfl)) $$ [Hcr HO Har]
  · isplitr; · iapply (known_inv m K c .recv); iexact HK
    isplitl [Hcr]; · iexact Hcr
    isplitl [HO]; · iexact HO
    isplitr; · rw [MayWait_zero]; iempintro
    iexact Har
  iintro ⟨HO, Har, -, Hpay⟩
  ihave Hl := (Entails.of_eq ((rest_zero m c .recv).trans ((handover_recv m c).trans (landBuf_owns c _).symm))) $$ Hpay
  imod (Rounds.cell_close talkEmb (talk m) (Set.mem_univ (K (c, .barrier))) (fun h => h) (R := 0 + 1) (duties_later m (cell c .barrier))) $$ [Hab] with Hzb
  · isplitr; · iapply (known_inv m K c .barrier); iexact HK
    iexact Hab
  imod (Rounds.cell_close talkEmb (talk m) (Set.mem_univ (K (c, .send))) (fun h => h) (R := 0 + 1) (duties_later m (cell c .send))) $$ [Has] with Hzs
  · isplitr; · iapply (known_inv m K c .send); iexact HK
    iexact Has
  imod (Rounds.cell_close talkEmb (talk m) (Set.mem_univ (K (c, .recv))) (fun h => h) (R := 0 + 1) (duties_later m (cell c .recv))) $$ [Har] with Hzr
  · isplitr; · iapply (known_inv m K c .recv); iexact HK
    iexact Har
  -- the total
  iapply (load_all c origin_eq (ownSum m c)) $$ Hs; iintro Hs
  iapply (load_all c origin_eq (ownSum m (peer c))) $$ Hl; iintro Hl
  iapply (load_all c origin_eq Z) $$ Hz; iintro Hz
  iapply (store_all c origin_eq Z) $$ Hz; iintro Hz
  rw [wp_ret]; imodintro
  iapply Hk
  iexists (insert (Role.recv.sem, ()) (insert (Role.send.sem, ()) (insert (Role.barrier.sem, ()) W)))
  unfold settled
  isplitl [Hx]; · iexact Hx
  isplitl [Hz]; · iexact Hz
  isplitl [Hs Hl Hzb Hzs Hzr]
  · isplitl [Hs]; · iexists (ownSum m c); iapply (Entails.of_eq (sumBuf_owns c _)); iexact Hs
    isplitl [Hl]; · iexists (ownSum m (peer c)); iapply (Entails.of_eq (landBuf_owns c _)); iexact Hl
    isplitl [Hzb]; · iexact Hzb
    isplitl [Hzs] <;> iassumption
  iexact HO

end Points

end Cert.ColumnSum

end
-- ==== Proof.Obligation.lean ====
/-
The pipeline's proof data: what every staging buffer holds after each grid point, what a device holds between points,
and that the body takes one point's holdings to the next point's.
-/
module

public import proofs.«01_k».proof.Proof.Body
public import proofs.«01_k».proof.Proof.Gen.KernelIdeal.Points
public import proofs.«01_k».proof.Proof.Gen.KernelIdeal.Launch

@[expose] public section

noncomputable section

namespace Cert.ColumnSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ)

/-- What the launch deals device `c`: the records, its part for the last point, and the duty its signal pays. -/
def dealt (c : Dev nD) : sProp 𝕄 :=
  iprop(∃ K, known m K ∗ pending c ∗ dutyTok talkEmb (cell (peer c) .barrier) 0 ())

/-- What device `c` holds before grid point `n`: everything at first; the partial sums so far from then on, the landing
    buffer and the signal's duty gone; both buffers and the closed counters at the end. -/
def held (c : Dev nD) : ℕ → sProp 𝕄
  | 0 => iprop(dealt m c ∗ (∃ S, sumBuf c S) ∗ ∃ Y, landBuf c Y)
  | n + 1 => if n < 7 then iprop((∃ K, known m K ∗ pending c) ∗ sumBuf c (partialSum m c n)) else settled c

/-- The pipeline's proof data on each device. -/
def dats (_ : Fin 1) (c : Dev nD) : Dat τ (Elt F) Unit ℕ Res ℕ cfg0 c where
  A w := m ((cfg0.win w).arr.view.loc (c : Thread nD τ))
  after w t := match w with
    | ⟨0, _⟩ => rows m c t
    | ⟨1, _⟩ => result m c
  Φ t := held m c t.val
  q _ := fullShare
  owed t := due c t.val

/-- The rows' staging buffer holds the point's rows. -/
theorem before_rows (c : Dev nD) (t : Fin cfg0.N) (d) : (dats m 0 c).before 0 t d = rows m c t := by
  unfold Dat.before
  rw [if_pos (fetch0_0 t)]
  rfl

/-- The points are the first eight numbers. -/
theorem pt_val (t : Fin cfg0.N) : pt t.val = t := Fin.ext (Nat.mod_eq_of_lt (show t.val < 8 from by rw [← N_0]; exact t.isLt))

/-- Away from the last point the result's window is idle and not written back. -/
theorem idle_of_ne (t : Fin cfg0.N) (h : t.val ≠ 7) : idle0 1 (grid0.coords t) = true := by
  have hl := mt (last_iff t).mp h
  show (!(k0_cond3 (grid0.coords t) == 1#1)) = true
  rw [Bool.not_eq_true', beq_eq_false_iff_ne]
  exact hl

/-- Nothing is written back there. -/
theorem no_flush_of_ne (t : Fin cfg0.N) (h : t.val ≠ 7) : (cfg0.win 1).flush t = false := by
  have h8 : t.val < 8 := by rw [← N_0]; exact t.isLt
  rw [← Bool.not_eq_true, flush0_1]
  omega

/-- At the last point it is not idle. -/
theorem not_idle_last (t : Fin cfg0.N) (h : t.val = 7) : idle0 1 (grid0.coords t) = false := by
  show (!(k0_cond3 (grid0.coords t) == 1#1)) = false
  rw [Bool.not_eq_false', beq_iff_eq]
  exact (last_iff t).mpr h

/-- What is held before point `t`, -/
theorem held_before (c : Dev nD) (t : Fin cfg0.N) : (dats m 0 c).Φ t.castSucc = held m c t.val := rfl
/-- and after it; -/
theorem held_after (c : Dev nD) (t : Fin cfg0.N) : (dats m 0 c).Φ t.succ = held m c (t.val + 1) := rfl
/-- what is owed before it, -/
theorem due_before (c : Dev nD) (t : Fin cfg0.N) : (dats m 0 c).owed t.castSucc = due c t.val := rfl
/-- and after it. -/
theorem due_after (c : Dev nD) (t : Fin cfg0.N) : (dats m 0 c).owed t.succ = due c (t.val + 1) := rfl
/-- The body leaves the rows it read in place, -/
theorem rows_after (c : Dev nD) (t : Fin cfg0.N) : (dats m 0 c).after 0 t = rows m c t := rfl
/-- and the result's block, when it is written, at the total. -/
theorem result_after (c : Dev nD) (t : Fin cfg0.N) : (dats m 0 c).after 1 t = result m c := rfl

/-- What the pipeline calls at a point is the body on that point's staging buffers. -/
theorem called_eq (t : Fin cfg0.N) : defs₀ (F := F) .tc cfg0.body (cfg0.bodyArgs t (cfg0.slots t)) = bodyAt0 t := rfl

/-- The body takes the holdings before a point to those after it. -/
theorem obligation (c : Dev nD) : BodyObligation (dats (F := F) m 0 c) (defs₀ (F := F)) plain () Set.univ := fun t => by
  have h8 : t.val < 8 := by rw [← N_0]; exact t.isLt
  rw [bigSep_W0, bigSep_W0, called_eq, held_before, held_after]
  unfold Dat.owesAt
  rw [due_before, due_after]
  by_cases h7 : t.val = 7
  · simp only [not_idle_last t h7]
    rw [rows_after, result_after, h7]
    have hd : due c 7 = copyDue c := rfl
    have hd' : due c (7 + 1) = 0 := rfl
    have hh : held m c 7 = iprop((∃ K, known m K ∗ pending c) ∗ sumBuf c (partialSum m c 6)) := rfl
    have hh' : held m c (7 + 1) = settled c := rfl
    have hS : k0_pay2 (F := F) (partialSum m c 6) (rows m c t) = ownSum m c := by
      rw [← pt_val t, h7]; rfl
    rw [hd, hd', hh, hh']
    unfold Pipeline.owesWithin
    iintro ⟨⟨⟨%K, HK, Hp⟩, Hs⟩, ⟨%W, %hW, HO⟩, ⟨%d0, Hx⟩, ⟨%d1, Hz⟩⟩
    ihave Hx := (Entails.of_eq (congrArg (owns (c : Thread nD τ) (stage0_0 (cfg0.slots t 0)) fullShare) (before_rows m c t d0))) $$ Hx
    iapply (body_last m c t _ _ _ _ (rows m c t) W _ K h7 (partialSum m c 6) ((dats m 0 c).before 1 t d1) hS)
    isplitl [Hx Hz Hs HK Hp HO]
    · isplitl [Hx]; · iexact Hx
      isplitl [Hz]; · iexact Hz
      isplitl [Hs]; · iexact Hs
      isplitl [HK]; · iexact HK
      isplitl [Hp]; · iexact Hp
      iexact HO
    · iintro ⟨%W', Hx, Hz, Hset, HO⟩
      isplitl [Hset]; · iexact Hset
      isplitl [HO]
      · iexists W'
        isplitr; · ipureintro; exact fun _ _ => Or.inl trivial
        iexact HO
      isplitl [Hx] <;> iassumption
  · simp only [idle_of_ne t h7, no_flush_of_ne t h7]
    rw [rows_after]
    by_cases h0 : t.val = 0
    · have hX : k0_pay1 (F := F) (rows m c t) = partialSum m c 0 := by rw [← pt_val t, h0]; rfl
      have hd : due c 0 = launchDue c := rfl
      have hd' : due c (0 + 1) = copyDue c := rfl
      have hh : held m c 0 = iprop(dealt m c ∗ (∃ S, sumBuf c S) ∗ ∃ Y, landBuf c Y) := rfl
      have hh' : held m c (0 + 1) = iprop((∃ K, known m K ∗ pending c) ∗ sumBuf c (partialSum m c 0)) := rfl
      rw [h0, hd, hd', hh, hh']
      unfold Pipeline.owesWithin dealt
      iintro ⟨⟨⟨%K, #HK, Hp, Htok⟩, Hs, Hl⟩, ⟨%W, %hW, HO⟩, ⟨%d0, Hx⟩, Hz⟩
      ihave Hx := (Entails.of_eq (congrArg (owns (c : Thread nD τ) (stage0_0 (cfg0.slots t 0)) fullShare) (before_rows m c t d0))) $$ Hx
      iapply (body_first m c t _ _ _ _ (rows m c t) W _ K h0)
      isplitl [Hx Hs Hl Htok HO]
      · isplitl [Hx]; · iexact Hx
        isplitl [Hs]; · iexact Hs
        isplitl [Hl]; · iexact Hl
        isplitr; · iexact HK
        isplitl [Htok]; · iexact Htok
        iexact HO
      · rw [hX]
        iintro ⟨Hx, Hs, HO⟩
        isplitl [Hp Hs]
        · isplitl [Hp]
          · iexists K
            isplitr; · iexact HK
            iexact Hp
          iexact Hs
        isplitl [HO]
        · iexists W
          isplitr; · ipureintro; exact fun _ _ => Or.inl trivial
          iexact HO
        isplitl [Hx] <;> iassumption
    · obtain ⟨n, hn⟩ : ∃ n, t.val = n + 1 := ⟨t.val - 1, by omega⟩
      have hX : k0_pay2 (F := F) (partialSum m c n) (rows m c t) = partialSum m c (n + 1) := by rw [← pt_val t, hn]; rfl
      have hd : due c (n + 1) = copyDue c := by unfold due; rw [if_neg (by omega), if_pos (by omega)]
      have hd' : due c (n + 1 + 1) = copyDue c := by unfold due; rw [if_neg (by omega), if_pos (by omega)]
      have hh : held m c (n + 1) = iprop((∃ K, known m K ∗ pending c) ∗ sumBuf c (partialSum m c n)) :=
        if_pos (show n < 7 by omega)
      have hh' : held m c (n + 1 + 1) = iprop((∃ K, known m K ∗ pending c) ∗ sumBuf c (partialSum m c (n + 1))) :=
        if_pos (show n + 1 < 7 by omega)
      rw [hn, hd, hd', hh, hh']
      unfold Pipeline.owesWithin
      iintro ⟨⟨HK, Hs⟩, ⟨%W, %hW, HO⟩, ⟨%d0, Hx⟩, Hz⟩
      ihave Hx := (Entails.of_eq (congrArg (owns (c : Thread nD τ) (stage0_0 (cfg0.slots t 0)) fullShare) (before_rows m c t d0))) $$ Hx
      iapply (body_middle c t _ _ _ _ (rows m c t) _ h0 h7 (partialSum m c n))
      isplitl [Hx Hs]
      · isplitl [Hx] <;> iassumption
      · rw [hX]
        iintro ⟨Hx, Hs⟩
        isplitl [HK Hs]
        · isplitl [HK] <;> iassumption
        isplitl [HO]
        · iexists W
          isplitr; · ipureintro; exact fun _ _ => Or.inl trivial
          iexact HO
        isplitl [Hx] <;> iassumption

end Cert.ColumnSum

end
-- ==== Proof.Run.lean ====
/-
The run of the four devices: what the launch hands each of them, and that every execution ends with each array at what
the pipeline's writes leave.
-/
module

public import proofs.«01_k».proof.Proof.Obligation
public import Idealize.ShloMosaic.Lib.Pipeline.CollectiveSegs

@[expose] public section

noncomputable section

namespace Cert.ColumnSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ) (ρ : Dev nD → PrngReg)

/-! ## The cells at launch -/

/-- The kernel's own two semaphores; the barrier's is the launch's. -/
abbrev own : Fin 2 → SemLoc sig := ![Role.send.sem, Role.recv.sem]

/-- They are two scoped semaphores of the kernel's, none of them a window's. -/
theorem own_facts : Pipeline.OwnSemFacts cfg0.spec own := by decide

/-- Each device holds the whole of each of its arrays. -/
theorem share_full (c : Dev nD) (w : Fin cfg0.W) : (dats m 0 c).share w = fullShare := by unfold Dat.share; split <;> rfl

/-- A device and a role name a cell of their own. -/
def cellEmb : Dev nD × Role ↪ GSem nD τ sig where
  toFun ck := cell ck.1 ck.2
  inj' := fun _ _ h => Prod.ext (cell_inj h).1 (cell_inj h).2

/-- So do their duties. -/
def dutyEmb : Dev nD × Role ↪ GSem nD τ sig × ℕ × Unit where
  toFun ck := (cell ck.1 ck.2, 0, ())
  inj' := fun _ _ h => cellEmb.injective (congrArg Prod.fst h)

/-- The launch's ghost element: the staging cells' and the exchange's. -/
def launchElt : Res :=
  (initOf (Pipeline.cells cfgs cellOf_inj) (Pipeline.launchToks cfgs cellOf_inj),
    initOf (Finset.univ.map cellEmb) (Finset.univ.map dutyEmb))

/-- A device's own duties as minted. -/
def minted (c : Dev nD) : sProp 𝕄 := bigSep Finset.univ fun k : Role => dutyTok talkEmb (cell c k) 0 ()

/-- A device's places: each of its cells at the start of round 0. -/
def places (c : Dev nD) : sProp 𝕄 := bigSep Finset.univ fun k : Role => atPos talkEmb (cell c k) 0 ∅ 0
/-- Its marks: round 0 of each of its cells is reached. -/
def marks (c : Dev nD) : sProp 𝕄 := bigSep Finset.univ fun k : Role => reached talkEmb (cell c k) 0

/-- What the element deals device `c`. -/
def share (c : Dev nD) : sProp 𝕄 :=
  iprop((bigSep Finset.univ fun k : Role => roundState talkEmb (talk m) (cell c k) 0) ∗ places c ∗ marks c ∗ minted c)

/-- The duties a device pays. -/
def payable (c : Dev nD) : sProp 𝕄 :=
  iprop(dutyTok talkEmb (cell (peer c) .barrier) 0 () ∗ dutyTok talkEmb (cell c .send) 0 () ∗ dutyTok talkEmb (cell (peer c) .recv) 0 ())

/-- What the common step makes of it. -/
def ready (c : Dev nD) : sProp 𝕄 := iprop(∃ K, known m K ∗ places c ∗ payable c)

/-- One for each role is the three of them. -/
theorem bigSep_role (Φ : Role → sProp 𝕄) : bigSep Finset.univ Φ = iprop(Φ .barrier ∗ Φ .send ∗ Φ .recv) :=
  bigSep_univ_eq_bigSepL [Role.barrier, Role.send, Role.recv] (by decide) (by decide) Φ

/-- The exchange's element is every device's share. -/
theorem fund_talk : BI.own (talkEmb (initOf (Finset.univ.map cellEmb) (Finset.univ.map dutyEmb)))
    ⊢ (|==> bigSep Finset.univ (share m) : sProp 𝕄) := by
  have hc (Φ : GSem nD τ sig → sProp 𝕄) : bigSep (Finset.univ.map cellEmb) Φ
      = bigSep Finset.univ fun c : Dev nD => bigSep Finset.univ fun k : Role => Φ (cell c k) := by
    rw [bigSep_map, bigSep_univ_prod]; rfl
  have ht : bigSep (Finset.univ.map dutyEmb) (fun x => (dutyTok talkEmb x.1 x.2.1 x.2.2 : sProp 𝕄)) = bigSep Finset.univ fun c : Dev nD => minted c := by
    rw [bigSep_map, bigSep_univ_prod]; rfl
  iintro HX
  imod (Rounds.fund talkEmb (talk m) (Finset.univ.map cellEmb) (Finset.univ.map dutyEmb)) $$ HX with ⟨Hst, Hr, Hat, Htok⟩
  imodintro
  ihave Hst := (Entails.of_eq (hc fun g => roundState talkEmb (talk m) g 0)) $$ Hst
  ihave Hat := (Entails.of_eq (hc fun g => atPos talkEmb g 0 ∅ 0)) $$ Hat
  ihave Hr := (Entails.of_eq (hc fun g => reached talkEmb g 0)) $$ Hr
  ihave Htok := (Entails.of_eq ht) $$ Htok
  unfold share places marks
  simp only [bigSep_sep']
  isplitl [Hst]; · iexact Hst
  isplitl [Hat]; · iexact Hat
  isplitl [Hr] <;> iassumption

/-! ## Allocating the invariants -/

/-- The kernel's own counters at launch, named. -/
theorem ownSems_eq (c : Dev nD) : (Pipeline.ownSems0 (Ix := Unit) (Name := ℕ) (U := Res) (Lvl := ℕ) (Val := Elt F) (τ := τ) own c : sProp 𝕄)
    = iprop(semVal (cell c .send) 0 ∗ semVal (cell c .recv) 0) := by
  rw [Pipeline.ownSems0_eq_of_list c own [0, 1] (by decide) (by decide)]; rfl

/-- The barrier's counter is the only one outside the kernel. -/
theorem unscopedSems_eq (c : Dev nD) : (unscopedSems0 c : sProp 𝕄) = semVal (cell c .barrier) 0 := by
  unfold unscopedSems0; rw [bigSep_eq_bigSepL_of_eq [Role.barrier.sem] (by decide) (by decide)]; rfl

/-- One device's three invariants, from its counters at zero and its share. -/
theorem alloc_one (c : Dev nD) :
    iprop(Pipeline.ownSems0 (Ix := Unit) (Name := ℕ) (U := Res) (Lvl := ℕ) (Val := Elt F) (τ := τ) own c ∗ unscopedSems0 c ∗ share m c)
      ⊢ |={Set.univ}=> iprop((bigSep Finset.univ fun k : Role => iprop(∃ κ : ℕ, cellInv talkEmb (talk m) κ (cell c k)))
          ∗ places c ∗ marks c ∗ minted c) := by
  have hstep : iprop((bigSep Finset.univ fun k : Role => semVal (cell c k) 0) ∗ bigSep Finset.univ fun k : Role => roundState talkEmb (talk m) (cell c k) 0)
      ⊢ (|={Set.univ}=> bigSep Finset.univ fun k : Role => iprop(∃ κ : ℕ, cellInv talkEmb (talk m) κ (cell c k)) : sProp 𝕄) := by
    rw [← bigSep_sep']
    exact (bigSep_mono fun k _ => (Rounds.body_intro talkEmb (talk m) (cell c k)).trans inv_alloc).trans (bigSep_fupd _ _)
  rw [ownSems_eq, unscopedSems_eq]
  unfold share
  iintro ⟨⟨Hs, Hr⟩, Hb, Hst, Hrest⟩
  imod hstep $$ [Hs Hr Hb Hst] with Hinv
  · isplitr [Hst]
    · rw [bigSep_role]
      isplitl [Hb]; · iexact Hb
      isplitl [Hs] <;> iassumption
    · iexact Hst
  imodintro
  isplitl [Hinv]; · iexact Hinv
  iexact Hrest

/-- The duties go to whoever pays them: the barrier's and the receive's to the partner. -/
theorem minted_payable : (bigSep Finset.univ fun c : Dev nD => (minted c : sProp 𝕄)) ⊢ bigSep Finset.univ fun c : Dev nD => payable c := by
  unfold minted payable
  simp only [bigSep_role]
  rw [bigSep_sep', bigSep_sep', bigSep_sep', bigSep_sep',
    bigSep_univ_equiv partner (fun c : Dev nD => (dutyTok talkEmb (cell c .barrier) 0 () : sProp 𝕄)),
    bigSep_univ_equiv partner (fun c : Dev nD => (dutyTok talkEmb (cell c .recv) 0 () : sProp 𝕄))]
  exact BIBase.Entails.rfl

/-- The invariants of all devices, known to all. -/
theorem pool : (bigSep Finset.univ fun c : Dev nD => iprop((bigSep Finset.univ fun k : Role => iprop(∃ κ : ℕ, cellInv talkEmb (talk m) κ (cell c k)))
          ∗ places c ∗ marks c ∗ minted c) : sProp 𝕄)
      ⊢ bigSep Finset.univ (ready m) := by
  have hmarks : (bigSep Finset.univ fun c : Dev nD => marks c : sProp 𝕄)
      = bigSep Finset.univ fun ck : Dev nD × Role => reached talkEmb (cell ck.1 ck.2) 0 := by
    rw [bigSep_univ_prod]; rfl
  rw [bigSep_sep', bigSep_sep', bigSep_sep', hmarks,
    ← bigSep_univ_prod (fun ck : Dev nD × Role => iprop(∃ κ : ℕ, cellInv talkEmb (talk m) κ (cell ck.1 ck.2)))]
  iintro ⟨HI, Hat, #HR, Htok⟩
  ihave HK := (BI.bigSep_exists_pi Finset.univ (fun (ck : Dev nD × Role) (κ : ℕ) => (cellInv talkEmb (talk m) κ (cell ck.1 ck.2) : sProp 𝕄))) $$ HI
  icases HK with ⟨%K, #HI⟩
  ihave Htok := (minted_payable (F := F)) $$ Htok
  iapply (bigSep_with_persistent (R := known m K) (Φ := fun c => iprop(places c ∗ payable c)) fun c _ => by
    unfold ready
    iintro ⟨HK, H⟩
    iexists K
    isplitl [HK] <;> iassumption)
  isplitr
  · unfold known
    isplitl; · iexact HI
    iexact HR
  · rw [bigSep_sep']
    isplitl [Hat] <;> iassumption

/-- The common step, on every device's counters at once. -/
theorem alloc_all : (bigSep Finset.univ fun c => iprop(Pipeline.ownSems0 (Ix := Unit) (Name := ℕ) (U := Res) (Lvl := ℕ) (Val := Elt F) (τ := τ) own c
      ∗ unscopedSems0 c ∗ share m c) : sProp 𝕄)
    ⊢ |={Set.univ}=> bigSep Finset.univ (ready m) :=
  ((bigSep_mono fun c _ => alloc_one m c).trans (bigSep_fupd _ _)).trans (BI.fupd_mono (pool m))

/-! ## The credit at launch -/

/-- A due to the partner of `d` on role `k`, seen from device `c`'s cell of role `l`. -/
theorem due_seen (d c : Dev nD) (k l : Role) (n : ℕ) :
    (tallyAt (cell (peer d) k) () n : CellTallies nD τ sig Unit) (cell c l) () = if k = l ∧ d = peer c then n else 0 := by
  have same : (cell c l = cell (peer d) k ∧ () = ()) ↔ (k = l ∧ d = peer c) := by
    constructor
    · rintro ⟨e, -⟩
      obtain ⟨hc, hk⟩ := cell_inj e
      exact ⟨hk.symm, by rw [hc, peer_peer]⟩
    · rintro ⟨rfl, rfl⟩
      exact ⟨by rw [peer_peer], rfl⟩
  rw [tallyAt_apply]
  exact if_congr same rfl rfl

/-- What device `d` owes device `c`'s barrier cell at launch. -/
theorem barrier_owed (d c : Dev nD) : launchDue d (cell c .barrier) () = if d = peer c then 1 else 0 := by
  refine (congrArg₂ (· + ·) (due_seen d c .recv .barrier rowCredit) (due_seen d c .barrier .barrier 1)).trans ?_
  simp

/-- What it owes device `c`'s receive cell. -/
theorem copy_owed (d c : Dev nD) : launchDue d (cell c .recv) () = if d = peer c then rowCredit else 0 := by
  refine (congrArg₂ (· + ·) (due_seen d c .recv .recv rowCredit) (due_seen d c .barrier .recv 1)).trans ?_
  simp

/-- A cell's credit at launch is what the partner owes it. -/
theorem credit_from_peer (c : Dev nD) (k : Role) (n : ℕ) (h : ∀ d, launchDue d (cell c k) () = if d = peer c then n else 0) :
    tallyOn (cell c k) (launchCredit (Pipeline.owing launchDue) 0 (cell c k)) = (tallyAt (cell c k) () n : CellTallies nD τ sig Unit) := by
  have total : launchCredit (Pipeline.owing launchDue) 0 (cell c k) () = n := by
    rw [Pipeline.launchCredit_owing]
    refine (Finset.sum_eq_single (peer c) (fun d _ other => (h d).trans (if_neg other)) fun out => ?_).trans
      ((h (peer c)).trans (if_pos rfl))
    exact absurd (Finset.mem_univ _) out
  refine congrArg (tallyOn (cell c k)) (Finsupp.ext fun _ => ?_)
  exact total.trans (Finsupp.single_eq_same).symm

/-- So a device is launched with the barrier unit and the copy's credit its partner owes it. -/
theorem credits (c : Dev nD) : (Pipeline.launchCred launchDue c : sProp 𝕄)
    ⊢ iprop(cred (tallyAt (cell c .barrier) () 1) ∗ cred (tallyAt (cell c .recv) () rowCredit)) := by
  unfold Pipeline.launchCred
  rw [bigSep_univ_at _ Role.barrier.sem, credit_from_peer c .barrier 1 fun d => barrier_owed d c]
  refine sep_mono_right ?_
  rw [← credit_from_peer c .recv rowCredit fun d => copy_owed d c]
  exact bigSep_elim (Finset.mem_erase.mpr ⟨by decide, Finset.mem_univ _⟩)

/-! ## Into and out of the region -/

/-- What the launch leaves a device is what its first point is dealt. -/
theorem dealt_intro (c : Dev nD) :
    iprop(Pipeline.unscopedRestP Pipeline.Prefetch.none cfg0.spec c (fun b => m ((c : Thread nD τ).loc b)) ∗ levAts idx level
        ∗ Pipeline.launchCred launchDue c ∗ prngReg c (ρ c) ∗ ready m c)
      ⊢ |={Set.univ}=> iprop(dealt m c ∗ emp) := by
  iintro ⟨-, Hlev, Hcr, -, HR⟩
  ihave Hc := (credits (F := F) c) $$ Hcr
  icases Hc with ⟨Hcb, Hcr⟩
  unfold ready places payable dealt pending
  rw [bigSep_role]
  icases HR with ⟨%K, HK, ⟨Hab, Has, Har⟩, Htb, Hts, Htr⟩
  imodintro
  isplitl
  · iexists K
    isplitl [HK]; · iexact HK
    isplitr [Htb]
    · isplitl [Hab]; · iexact Hab
      isplitl [Has]; · iexact Has
      isplitl [Har]; · iexact Har
      isplitl [Htr]; · iexact Htr
      isplitl [Hts]; · iexact Hts
      isplitl [Hcb]; · iexact Hcb
      isplitl [Hcr] <;> iassumption
    · iexact Htb
  · iempintro

/-- With the two scratch buffers, that is what the first point finds. -/
theorem region_enter (c : Dev nD) :
    iprop(dealt m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(dealt m c ∗ (∃ S, sumBuf c S) ∗ ∃ Y, landBuf c Y) from rfl, scopedRest0_eq]
  unfold sumBuf landBuf
  iintro ⟨Hd, -, Hs, Hl⟩
  isplitl [Hd]; · iexact Hd
  isplitl [Hs] <;> iassumption

/-- What the last point leaves returns the scratch buffers and every counter at zero. -/
theorem region_leave (c : Dev nD) :
    (dats m 0 c).Φ (Fin.last cfg0.N) ⊢ iprop(unscopedSems0 c ∗ Pipeline.ownSems0 own c ∗ Pipeline.scopedRest cfg0.spec c) := by
  rw [show (dats m 0 c).Φ (Fin.last cfg0.N) = settled c from rfl, scopedRest0_eq, ownSems_eq, unscopedSems_eq]
  unfold settled sumBuf landBuf
  iintro ⟨Hs, Hl, Hzb, Hzs, Hzr⟩
  isplitl [Hzb]; · iexact Hzb
  isplitl [Hzs Hzr]
  · isplitl [Hzs] <;> iassumption
  isplitl [Hs] <;> iassumption

/-- The staging semaphores' level lets a device wait on them whatever it still owes. -/
theorem staging_waits (c : Dev nD) : (levAts idx level : sProp 𝕄) ⊢ Pipeline.cellsWaits cfgs (dats m) () 0 c :=
  Pipeline.cellsWaits_intro cfgs (dats m) () 0 c fun w s t =>
    mayWait_staging c _ (by fin_cases w <;> fin_cases s <;> decide) t.val

/-! ## The run -/

/-- What the windowed arrays hold at the end. -/
def final (c : Dev nD) (w : Fin cfg0.W) : Buf (Elt F) ((cfg0.win w).arr.view.loc (c : Thread nD τ)) := (dats m 0 c).arrAt w cfg0.N

set_option maxRecDepth 8000 in
/-- From any memory with all counters zero, every fair execution on the four devices ends, each array at what the
    pipeline's writes leave and every counter back at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) stagingEmb defs₀ plain m ρ main
    (hmain := fun _ => rfl)
    (hbody := obligation m) (hne := fun w => by fin_cases w <;> exact Nat.succ_pos _) (harr := arr_whole0) (hstage := stage_whole0) (hshare := share_full m)
    (hdistinct := winFacts0.arr_inj)
    (O₀ := launchDue) (howed₀ := fun _ => rfl) (howedN := fun _ => rfl)
    (L := idx) (lv := level) (hL := idx_of_ne) (hwaits := staging_waits m)
    (G := share m) (G' := ready m) (u₀ := launchElt)
    (hu₀ := by
      unfold launchElt
      iintro Hu
      ihave H := (ownU_pair _ _) $$ Hu
      icases H with ⟨HP, HX⟩
      imod (fund_talk m) $$ HX with HG
      imodintro
      isplitl [HP] <;> iassumption)
    (hglob := alloc_all m)
    (hA := fun _ _ => rfl) (hpf := fun _ k => k.elim0)
    (X := dealt m) (Y := fun c => unscopedSems0 c) (Z := fun _ => iprop(emp))
    (hX := dealt_intro m ρ) (hin := region_enter m) (hout := region_leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it began. -/
theorem final_arg (c : Dev nD) : final m c 0 = m ((cfg0.win 0).arr.view.loc (c : Thread nD τ)) := (dats m 0 c).arrAt_in 0 rfl _

end Cert.ColumnSum

end
-- ==== Proof.ArrayValue.lean ====
/-
What a device's result array holds after the run.

The one output block is the whole array, and it is written back once, after the last grid point. So the array ends at
the sum of the device's own column sums and its partner's.
-/
module

public import proofs.«01_k».proof.Proof.Run

@[expose] public section

noncomputable section

namespace Cert.ColumnSum

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The output's block sits at the array's origin at the last grid point. -/
theorem out_origin : (fun a => win0_1.index t0_7 a * main_v1.ty.shape.size a) = fun _ => 0 := by
  funext a
  fin_cases a <;> decide

/-- Its extent on each axis is the array's. -/
theorem out_extent (a : Fin main_v1.ty.shape.rank) :
    win0_1.xsize (grid0.coords t0_7) a = main_v1.ty.shape.size a := by
  fin_cases a <;> decide +kernel

/-- Read through that block the array is read whole. -/
theorem read_out (x : Vec F S1x1024 .f32) : ((cfg0.win 1).blk t0_7).view.read (Elt F) x = x :=
  Memref.read_access_unit_zero (Elt F) main_v1 out_origin
    (fun a => (congrArg (· + _) (congrFun out_origin a)).trans_le (Nat.zero_add _).le) x

/-- Every element of the array lies in that block. -/
theorem out_covers (i : main_v1.ty.shape.Idx) : i ∈ ((cfg0.win 1).blk t0_7).view.set := by
  show i ∈ ((View.whole main_v1).slice (win0_1.rect t0_7)).set
  rw [View.set_slice_whole, Rect.mem_set_unit]
  intro a
  have low : win0_1.index t0_7 a * main_v1.ty.shape.size a = 0 := congrFun out_origin a
  have here : (i a : ℕ) < main_v1.ty.shape.size a := (i a).isLt
  show win0_1.index t0_7 a * main_v1.ty.shape.size a ≤ (i a : ℕ)
    ∧ (i a : ℕ) < win0_1.index t0_7 a * main_v1.ty.shape.size a + win0_1.xsize (grid0.coords t0_7) a
  rw [low, out_extent a]
  omega

/-- The write-back, which only the last point makes, writes `result`. -/
theorem written_back (c : Dev nD) (t : Fin cfg0.N) (writes : (cfg0.win 1).flush t = true) :
    (dats m 0 c).flushed 1 t = ((cfg0.win 1).blk t).view.read (Elt F) (result m c) := by
  have last : t = t0_7 := by
    have mod := (flush0_1 t).mp writes
    have lt : t.val < 8 := lt_of_lt_of_eq t.isLt N_0
    exact Fin.ext (show t.val = 7 by omega)
  subst last
  exact (congrArg ((cfg0.win 1).cut (grid0.coords t0_7)) (result_after m c t0_7)).trans (read_out (result m c)).symm

/-- The result array ends holding the sum of the two partners' column sums. -/
theorem final_result (c : Dev nD) : final m c 1 = result m c :=
  (dats m 0 c).arrAt_eq_of_cover 1 (result m c) (written_back m c) fun i =>
    ⟨t0_7, (flush0_1 t0_7).mpr rfl, out_covers i⟩

/-- The run read back: on every device the result array is at `result`, the argument unchanged, every semaphore at
zero. -/
theorem run_value : θ_run defs (onTc (τ := τ) (main (F := F))) ⟨m, fun _ => 0, ρ⟩ (fun r =>
    (∀ c : Dev nD, r.2.mem ((c : Thread nD τ).loc main_v1) = result m c
      ∧ r.2.mem ((c : Thread nD τ).loc main_arg0) = m ((c : Thread nD τ).loc main_arg0))
    ∧ r.2.sem = fun _ => 0) :=
  (θ_run defs _ _).mono (fun _ h => ⟨fun c => ⟨(h.1 c 1).trans (final_result m c), (h.1 c 0).trans (final_arg m c)⟩, h.2⟩)
    (run_main m ρ)

/-! ## The rows one grid point reads -/

/-- The block grid point `t` reads is the `t`-th along the rows, -/
theorem rows_block : ∀ t : Fin cfg0.N, win0_0.index t 0 = t.val := by decide +kernel

/-- and the only one along the columns. -/
theorem rows_column : ∀ t : Fin cfg0.N, win0_0.index t 1 = 0 := by decide +kernel

/-- Row `r`, lane `l` of the block grid point `t` reads is row `256 t + r`, lane `l` of the device's argument. -/
theorem rows_apply (c : Dev nD) (t : Fin cfg0.N) (i : S256x1024.Idx) (j : S2048x1024.Idx)
    (h0 : (j 0).val = 256 * t.val + (i 0).val) (h1 : (j 1).val = (i 1).val) :
    rows m c t i = m ((c : Thread nD τ).loc main_arg0) j := by
  show m ((c : Thread nD τ).loc main_arg0) (((View.whole main_arg0).slice (win0_0.rect t)).emb i) = _
  refine congrArg _ (Shape.idx_ext₂ (?_ : _ = (j 0).val) (?_ : _ = (j 1).val))
  · refine (win0_0.rect_emb_val t i 0).trans ?_
    rw [h0, rows_block]
    exact congrArg (· + _) (Nat.mul_comm _ _)
  · refine (win0_0.rect_emb_val t i 1).trans ?_
    rw [h1, rows_column]
    exact (congrArg (· + _) (Nat.zero_mul _)).trans (Nat.zero_add _)

end Cert.ColumnSum

end
-- ==== Proof.BlockSum.lean ====
/-
What the kernel's partial sums are over the extended reals.

A grid point adds up the 256 rows of its block, lane by lane, so after point `n` the buffer of partial sums holds the
sum of the first `256 (n + 1)` rows of the device's array, and after the last one the sum of all its 2048 rows.
-/
module

public import proofs.«01_k».proof.Proof.ArrayValue
public import Idealize.ShloMosaic.PureOps.Ideal.Laws
public import Idealize.ShloMosaic.Lib.ValueIdxCore

@[expose] public section

noncomputable section

namespace Cert.ColumnSum

open Cert.KernelIdeal Cert.KernelIdeal.Gen
open Idealize.ShloMosaic Idealize.ShloMosaic.TcCoe
open Idealize.ShloMosaic.ValueIdx
open Idealize.SL.Sem

variable (m : (ℓ : Loc nD τ sig) → Buf (Elt Ideal) ℓ)

/-- Row `r`, lane `l` of device `c`'s argument. -/
def entry (c : Dev nD) (r : Fin 2048) (l : Fin 1024) : EReal := m ((c : Thread nD τ).loc main_arg0) (ix2 r l)

/-- A lane of the one-row sums of a block is the sum of that lane over the block's rows. -/
theorem block_lane (v : Vec Ideal S256x1024 .f32) (j : S1x1024.Idx) :
    k0_pay1 v j = ∑ k : Fin 256, v (ix2 k (j 1)) := by
  unfold k0_pay1
  rw [shapeCast_self, shapeCast_self, shapeCast_addUnit_apply ![1024]]
  refine (Ideal.multiReduction_add_single v _ reduces_S256x1024_S1024 _ _ _).trans ?_
  exact Finset.sum_congr rfl fun k _ => congrArg v (Shape.idx_ext₂ rfl rfl)

/-- A later point adds its block's sums to what it finds. -/
theorem added_lane (a : Vec Ideal S1x1024 .f32) (v : Vec Ideal S256x1024 .f32) (j : S1x1024.Idx) :
    k0_pay2 a v j = a j + k0_pay1 v j := by
  unfold k0_pay1 k0_pay2
  simp only [shapeCast_self]
  rfl

/-- The rows of block `t`, lane `l`, summed: rows `256 t` to `256 t + 255` of the device's array. -/
theorem block_rows (c : Dev nD) (n : ℕ) (hn : n < 8) (j : S1x1024.Idx) :
    k0_pay1 (rows m c (pt n)) j = ∑ k : Fin 256, entry m c ⟨256 * n + k.val, by omega⟩ (j 1) := by
  rw [block_lane]
  refine Finset.sum_congr rfl fun k _ => rows_apply m c (pt n) _ _ ?_ rfl
  show 256 * n + k.val = 256 * (n % 8) + k.val
  rw [Nat.mod_eq_of_lt hn]

/-- The buffer of partial sums after point `n`, lane by lane: one sum a block, up to the `n`-th. -/
theorem partial_lane (c : Dev nD) (j : S1x1024.Idx) : ∀ n : ℕ,
    partialSum m c n j = ∑ t ∈ Finset.range (n + 1), k0_pay1 (rows m c (pt t)) j
  | 0 => (Finset.sum_range_one fun t => k0_pay1 (rows m c (pt t)) j).symm
  | n + 1 => by
    rw [Finset.sum_range_succ, ← partial_lane c j n]
    exact added_lane (partialSum m c n) (rows m c (pt (n + 1))) j

/-- A device's column sums: each lane is the sum of that column of the device's array over its 2048 rows. -/
theorem ownSum_lane (c : Dev nD) (j : S1x1024.Idx) : ownSum m c j = ∑ r : Fin 2048, entry m c r (j 1) := by
  unfold ownSum
  rw [partial_lane, Finset.sum_range]
  rw [Finset.sum_congr rfl fun t _ => block_rows m c t.val t.isLt j]
  rw [← Fintype.sum_prod_type' fun (t : Fin 8) (k : Fin 256) => entry m c ⟨256 * t.val + k.val, by omega⟩ (j 1)]
  refine Fintype.sum_equiv (finProdFinEquiv (m := 8) (n := 256)) _ _ fun p => ?_
  exact congrArg (entry m c · (j 1)) (Fin.ext (Nat.add_comm _ _))

/-- A device's result: its own column sums plus its partner's. -/
theorem result_lane (c : Dev nD) (j : S1x1024.Idx) :
    result m c j = ∑ r : Fin 2048, entry m c r (j 1) + ∑ r : Fin 2048, entry m (peer c) r (j 1) := by
  rw [← ownSum_lane, ← ownSum_lane]
  rfl

end Cert.ColumnSum

end
-- ==== Proof.RefValue.lean ====
/-
What the reference computes over the extended reals: each lane of its one row is the sum of that column of the whole
4096 x 2048 array.
-/
module

public import proofs.«01_k».proof.Proof.Gen.ReferenceIdeal
public import Idealize.ShloMosaic.PureOps.Ideal.Laws
public import Idealize.ShloMosaic.Lib.ValueIdxCore
public import Idealize.ShloMosaic.Lib.Pipeline.Value

@[expose] public section

noncomputable section

namespace Cert.ColumnSum

open Cert.ReferenceIdeal Cert.ReferenceIdeal.Gen
open Idealize.ShloMosaic Idealize.ShloMosaic.ValueIdx

/-- The reference's row: the array reduced along its rows from zero, laid out as one row. -/
def refRow (x : Vec Ideal S4096x2048 .f32) : Vec Ideal S1x2048 .f32 :=
  broadcastInDim S1x2048 ![1] bcast_S2048_S1x2048_1
    (Host.reduceAdd (F := Ideal) (φ := .f32) x (constant S_ .f32 0x00000000#32) reducesTo_S4096x2048_S2048_d0 h_S_)

/-- The one-row layout reads its lane. -/
theorem lay_lane (y : Vec Ideal S2048 .f32) (j : S1x2048.Idx) :
    broadcastInDim S1x2048 ![1] bcast_S2048_S1x2048_1 y j = y (ix1 (j 1)) := by
  unfold broadcastInDim
  refine congrArg y (funext fun a => ?_)
  fin_cases a
  rfl

/-- Lane `l` of the reference's row is the sum of column `l` over all 4096 rows. -/
theorem refRow_lane (x : Vec Ideal S4096x2048 .f32) (j : S1x2048.Idx) :
    refRow x j = ∑ r : Fin 4096, x (ix2 r (j 1)) := by
  have kept : S4096x2048.Reduces [0] S2048 := by decide
  unfold refRow
  rw [lay_lane]
  refine (Ideal.hostReduceAdd_single reducesTo_S4096x2048_S2048_d0 kept x _ _).trans ?_
  have zero : constant (F := Ideal) S_ .f32 0x00000000#32 (Shape.Idx.first h_S_) = 0 := Ideal.ofBits_zero_f32
  refine (congrArg (· + _) zero).trans ((zero_add _).trans ?_)
  exact Finset.sum_congr rfl fun r _ => congrArg x (Shape.idx_ext₂ rfl rfl)

end Cert.ColumnSum

end
-- ==== Proof.Equation.lean ====
/-
The equation between the two programs over the extended reals.

Device `c` holds the quarter of the whole array at row block `c / 2` and column block `c % 2`; its partner holds the
other row block of the same columns. So its own column sums and its partner's, added, are the column sums of the whole
array on those columns, in whichever order the two halves come.
-/
module

public import proofs.«01_k».proof.Proof.BlockSum
public import proofs.«01_k».proof.Proof.RefValue
public import Idealize.ShloMosaic.Lib.Layout

@[expose] public section

noncomputable section

namespace Cert.ColumnSum

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (x : Vec Ideal Cert.ReferenceIdeal.S4096x2048 .f32)

/-- Every device's argument is its quarter of the whole array `x`. -/
def Quartered : Prop := ∀ c : Dev nD, m ((c : Thread nD τ).loc main_arg0)
  = Layout.blockN ⟨2, ![2048, 1024]⟩ ⟨2, ![4096, 2048]⟩ (Layout.meshBlock [2, 2] ![[0], [1]] c) x

/-- Row `r` of a device of row block `b`, as a row of the whole array. -/
def row (b : Fin 2) (r : Fin 2048) : Fin 4096 := ⟨b.val * 2048 + r.val, by omega⟩

/-- Lane `l` of device `c`, as a column of the whole array. -/
def column (c : Dev nD) (l : Fin 1024) : Fin 2048 := ⟨c.val % 2 * 1024 + l.val, by omega⟩

/-- The row block of device `c`. -/
def half (c : Dev nD) : Fin 2 := ⟨c.val / 2, by have : c.val < 4 := c.isLt; omega⟩

/-- Partners are at the same columns, -/
theorem column_peer (c : Dev nD) (l : Fin 1024) : column (peer c) l = column c l := by
  refine Fin.ext (congrArg (· * 1024 + l.val) ?_)
  show (c.val + 2) % 4 % 2 = c.val % 2
  omega

/-- and hold the two row blocks between them. -/
theorem halves (c : Dev nD) : half c = 0 ∧ half (peer c) = 1 ∨ half c = 1 ∧ half (peer c) = 0 := by
  revert c
  decide

/-- Where the mesh puts a device: its row block and its column block. -/
theorem mesh_place : ∀ c : Dev nD, Layout.meshLin [2, 2] c.val [0] = (half c).val
    ∧ Layout.meshLin [2, 2] c.val [1] = c.val % 2 := by decide

variable {m x}

/-- An entry of a device's argument is the entry of the whole array at its row and column there. -/
theorem entry_whole (h : Quartered m x) (c : Dev nD) (r : Fin 2048) (l : Fin 1024) :
    entry m c r l = x (ix2 (row (half c) r) (column c l)) := by
  unfold entry
  rw [h c, Layout.blockN_apply]
  refine congrArg x (Shape.idx_ext₂ ?_ ?_)
  · exact congrArg (· * 2048 + r.val) (mesh_place c).1
  · exact congrArg (· * 1024 + l.val) (mesh_place c).2

/-- The sums of one column over the two row blocks add up to the sum over all the rows. -/
theorem sum_halves (f : Fin 4096 → EReal) :
    ∑ r : Fin 4096, f r = ∑ r : Fin 2048, f (row 0 r) + ∑ r : Fin 2048, f (row 1 r) := by
  refine (Fin.sum_univ_add (a := 2048) (b := 2048) f).trans ?_
  refine congrArg₂ (· + ·) (Finset.sum_congr rfl fun r _ => congrArg f (Fin.ext ?_))
    (Finset.sum_congr rfl fun r _ => congrArg f (Fin.ext ?_))
  · show r.val = 0 * 2048 + r.val
    omega
  · show 2048 + r.val = 1 * 2048 + r.val
    omega

/-- What a device's result array ends with is its column block of the reference's row. -/
theorem result_eq (h : Quartered m x) (c : Dev nD) :
    result m c = Layout.blockN ⟨2, ![1, 1024]⟩ ⟨2, ![1, 2048]⟩ (Layout.meshBlock [2, 2] ![[], [1]] c) (refRow x) := by
  funext j
  rw [result_lane, Layout.blockN_apply, refRow_lane]
  have place : (Layout.TilesN.idx (S := ⟨2, ![1, 1024]⟩) (T := ⟨2, ![1, 2048]⟩) (by decide)
      (Layout.meshBlock [2, 2] ![[], [1]] c) j) 1 = column c (j 1) :=
    Fin.ext (congrArg (· * 1024 + (j 1).val) (mesh_place c).2)
  have lanes : ∀ d : Dev nD, column d (j 1) = column c (j 1) →
      ∑ r : Fin 2048, entry m d r (j 1) = ∑ r : Fin 2048, x (ix2 (row (half d) r) (column c (j 1))) :=
    fun d same => Finset.sum_congr rfl fun r _ =>
      (entry_whole h d r (j 1)).trans (congrArg (fun l => x (ix2 (row (half d) r) l)) same)
  refine Eq.trans ?_ (Finset.sum_congr rfl fun r _ => congrArg (fun l => x (ix2 r l)) place.symm)
  rw [sum_halves fun r => x (ix2 r (column c (j 1))), lanes c rfl, lanes (peer c) (column_peer c (j 1))]
  rcases halves c with ⟨mine, theirs⟩ | ⟨mine, theirs⟩
  · rw [mine, theirs]
  · rw [mine, theirs, add_comm]

end Cert.ColumnSum

end
-- ==== Proof.lean ====
/-
The five claims about the column-sum kernel, assembled: the frames of the three programs, that the kernel over the
extended reals is the kernel's own program, and that its results are the reference's.

The two kernel programs have the same text, so the run is written once, over any float values
(`Proof/SameText.lean`, `Protocol.lean`, `Body.lean`, `Obligation.lean`, `Run.lean`, `ArrayValue.lean`) and read here at the bit
patterns and at the extended reals. `Proof/BlockSum.lean`, `RefValue.lean` and `Equation.lean` are the arithmetic.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SameText
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel ends on every device with its argument unchanged and every semaphore at zero. -/
theorem frame_kernel : Cert.quiescent_Kernel := by
  intro m ρ _
  rw [Cert.ColumnSum.tables_same]
  exact (θ_run Cert.KernelIdeal.defs _ _).mono (fun _ h => ⟨fun c => (h.1 c).2, h.2⟩)
    (Cert.ColumnSum.run_value (F := Bits) m ρ)

/-- So does the kernel over the extended reals. -/
theorem frame_kernelIdeal : Cert.quiescent_KernelIdeal := fun m ρ _ =>
  (θ_run Cert.KernelIdeal.defs _ _).mono (fun _ h => ⟨fun c => (h.1 c).2, h.2⟩)
    (Cert.ColumnSum.run_value (F := Ideal) m ρ)

/-- So does the reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- No operation of the kernel is replaced. -/
theorem preserves : Cert.preserves_Kernel_KernelIdeal := trivial

/-- When each device holds its quarter of the array, each ends with its column block of the reference's row of column
sums. -/
theorem algebraic : Cert.algebraic_KernelIdeal_ReferenceIdeal := by
  intro m g m' g' _ quarters
  refine ⟨Cert.ColumnSum.refRow (m' (((0 : Dev Cert.ReferenceIdeal.nD).tc : Thread _ Cert.ReferenceIdeal.τ).loc
    Cert.ReferenceIdeal.main_arg0)), ?_, ?_⟩
  · exact (θ_run Cert.KernelIdeal.defs _ _).mono
      (fun _ h c => ⟨((h.1 c).1).trans (Cert.ColumnSum.result_eq quarters c), (h.1 c).2⟩)
      (Cert.ColumnSum.run_value (F := Ideal) m g)
  · exact (θ_run Cert.ReferenceIdeal.defs _ _).mono (fun _ h => h 0)
      (Cert.ReferenceIdeal.Value.run (F := Ideal) m' g')

/-- The five claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
